-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S65536x256 : Shape := ⟨2, ![65536, 256]⟩
abbrev S256x256 : Shape := ⟨2, ![256, 256]⟩
abbrev S256 : Shape := ⟨1, ![256]⟩
abbrev S32x256x8 : Shape := ⟨3, ![32, 256, 8]⟩
abbrev S32x256 : Shape := ⟨2, ![32, 256]⟩
abbrev S1x256 : Shape := ⟨2, ![1, 256]⟩
abbrev S65536x32x1x8 : Shape := ⟨4, ![65536, 32, 1, 8]⟩
abbrev S32x8x256 : Shape := ⟨3, ![32, 8, 256]⟩
abbrev S1x32x8x256 : Shape := ⟨4, ![1, 32, 8, 256]⟩
abbrev S1x32x256 : Shape := ⟨3, ![1, 32, 256]⟩
abbrev S32x65536x1x256 : Shape := ⟨4, ![32, 65536, 1, 256]⟩
abbrev S65536x32x1x256 : Shape := ⟨4, ![65536, 32, 1, 256]⟩
abbrev S65536x32x256 : Shape := ⟨3, ![65536, 32, 256]⟩
abbrev S_ : Shape := ⟨0, ![]⟩
abbrev S65536x32 : Shape := ⟨2, ![65536, 32]⟩
abbrev S65536x32x1 : Shape := ⟨3, ![65536, 32, 1]⟩

class Facts : Prop where
  transposes_S256x256_S256x256_1_0 : S256x256.Transposes [1, 0] S256x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x256_S65536x32x1x8 : S65536x256.ShapeCasts S65536x32x1x8
  transposes_S32x256x8_S32x8x256_0_2_1 : S32x256x8.Transposes [0, 2, 1] S32x8x256
  bcast_S32x8x256_S1x32x8x256_1_2_3 : S32x8x256.BroadcastsInDim S1x32x8x256 (![1, 2, 3] : Fin 3 → Fin S1x32x8x256.rank)
  bcast_S32x256_S1x32x256_1_2 : S32x256.BroadcastsInDim S1x32x256 (![1, 2] : Fin 2 → Fin S1x32x256.rank)
  shapeCasts_S1x32x8x256_S32x8x256 : S1x32x8x256.ShapeCasts S32x8x256
  transposes_S32x65536x1x256_S65536x32x1x256_1_0_2_3 : S32x65536x1x256.Transposes [1, 0, 2, 3] S65536x32x1x256
  shapeCasts_S65536x32x1x256_S65536x32x256 : S65536x32x1x256.ShapeCasts S65536x32x256
  bcast_S_S65536x32x256 : S_.BroadcastsInDim S65536x32x256 (![] : Fin 0 → Fin S65536x32x256.rank)
  bcast_S1x32x256_S65536x32x256_0_1_2 : S1x32x256.BroadcastsInDim S65536x32x256 (![0, 1, 2] : Fin 3 → Fin S65536x32x256.rank)
  reducesTo_S65536x32x256_S65536x32_d2 : S65536x32x256.ReducesTo [2] S65536x32
  h_S_ : 0 < S_.numel
  bcast_S65536x32_S65536x32x1_0_1 : S65536x32.BroadcastsInDim S65536x32x1 (![0, 1] : Fin 2 → Fin S65536x32x1.rank)
  bcast_S65536x32x1_S65536x32x256_0_1_2 : S65536x32x1.BroadcastsInDim S65536x32x256 (![0, 1, 2] : Fin 3 → Fin S65536x32x256.rank)
  natLt_1_32 : 1 < 32
  bcast_S_S65536x32 : S_.BroadcastsInDim S65536x32 (![] : Fin 0 → Fin S65536x32.rank)
  dot_S65536x256_S256x256_S65536x256_1_0_0_1_n_n_wf : DotDims.WF S65536x256 S256x256 S65536x256 [1] [0] [0] [1] [] []
  dot_S65536x32x1x8_S32x8x256_S32x65536x1x256_3_1_02_2_1_0_wf : DotDims.WF S65536x32x1x8 S32x8x256 S32x65536x1x256 [3] [1] [0, 2] [2] [1] [0]

variable [Facts]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x32x1x8_S32x8x256_S32x65536x1x256_3_1_02_2_1_0 : DotDims S65536x32x1x8 S32x8x256 S32x65536x1x256 where
  lhsContracting := [3]
  rhsContracting := [1]
  lhsNonContracting := [0, 2]
  rhsNonContracting := [2]
  lhsBatch := [1]
  rhsBatch := [0]
  wf := dot_S65536x32x1x8_S32x8x256_S32x65536x1x256_3_1_02_2_1_0_wf
def fn_part1 {F : FTy → Type} [FloatOps F] (main_v21 : IVec S65536x32x256 32) : IVec S65536x32 1 :=
  let main_c : IVec S_ 32 := constantI S_ 32 0#32
  let main_v22 : IVec S65536x32 32 := (fun x v => Host.reduce IntOp.addi x v reducesTo_S65536x32x256_S65536x32_d2 h_S_) main_v21 main_c
  let main_c_1 : IVec S_ 32 := constantI S_ 32 1#32
  let main_v23 : IVec S65536x32 32 := broadcastInDim S65536x32 ![] bcast_S_S65536x32 main_c_1
  let main_v24 : IVec S65536x32 1 := cmpi .eq main_v22 main_v23
  main_v24

def fn {F : FTy → Type} [FloatOps F] (main_arg0 : FVec F S65536x256 .f32) (main_arg1 : FVec F S256x256 .f32) (main_arg2 : FVec F S256 .f32) (main_arg3 : FVec F S32x256x8 .f32) (main_arg4 : FVec F S32x256 .f32) : IVec S65536x32 1 :=
  let main_v0 : FVec F S256x256 .f32 := (transpose S256x256 [1, 0] · transposes_S256x256_S256x256_1_0) main_arg1
  let main_v1 : FVec F S65536x256 .f32 := (fun l r => Host.dotGeneral dot_S65536x256_S256x256_S65536x256_1_0_0_1_n_n none l r) main_arg0 main_v0
  let main_v2 : FVec F S1x256 .f32 := broadcastInDim S1x256 ![1] bcast_S256_S1x256_1 main_arg2
  let main_v3 : FVec F S65536x256 .f32 := broadcastInDim S65536x256 ![0, 1] bcast_S1x256_S65536x256_0_1 main_v2
  let main_v4 : FVec F S65536x256 .f32 := addf main_v1 main_v3
  let main_v5 : FVec F S65536x32x1x8 .f32 := shapeCast S65536x32x1x8 main_v4 shapeCasts_S65536x256_S65536x32x1x8
  let main_v6 : FVec F S32x8x256 .f32 := (transpose S32x8x256 [0, 2, 1] · transposes_S32x256x8_S32x8x256_0_2_1) main_arg3
  let main_v7 : FVec F S1x32x8x256 .f32 := broadcastInDim S1x32x8x256 ![1, 2, 3] bcast_S32x8x256_S1x32x8x256_1_2_3 main_v6
  let main_v8 : FVec F S1x32x256 .f32 := broadcastInDim S1x32x256 ![1, 2] bcast_S32x256_S1x32x256_1_2 main_arg4
  let main_v9 : FVec F S32x8x256 .f32 := shapeCast S32x8x256 main_v7 shapeCasts_S1x32x8x256_S32x8x256
  let main_v10 : FVec F S32x65536x1x256 .f32 := (fun l r => Host.dotGeneral dot_S65536x32x1x8_S32x8x256_S32x65536x1x256_3_1_02_2_1_0 none l r) main_v5 main_v9
  let main_v11 : FVec F S65536x32x1x256 .f32 := (transpose S65536x32x1x256 [1, 0, 2, 3] · transposes_S32x65536x1x256_S65536x32x1x256_1_0_2_3) main_v10
  let main_v12 : FVec F S65536x32x256 .f32 := shapeCast S65536x32x256 main_v11 shapeCasts_S65536x32x1x256_S65536x32x256
  let main_cst : FVec F S_ .f32 := constant S_ .f32 0x40000000#32
  let main_v13 : FVec F S65536x32x256 .f32 := broadcastInDim S65536x32x256 ![] bcast_S_S65536x32x256 main_cst
  let main_v14 : FVec F S65536x32x256 .f32 := mulf main_v13 main_v12
  let main_v15 : FVec F S65536x32x256 .f32 := broadcastInDim S65536x32x256 ![0, 1, 2] bcast_S1x32x256_S65536x32x256_0_1_2 main_v8
  let main_v16 : FVec F S65536x32x256 .f32 := subf main_v15 main_v14
  let main_cst_0 : FVec F S_ .f32 := constant S_ .f32 0x7F800000#32
  let main_v17 : FVec F S65536x32 .f32 := (fun x v => Host.reduce FloatOps.minimumf x v reducesTo_S65536x32x256_S65536x32_d2 h_S_) main_v16 main_cst_0
  let main_v18 : FVec F S65536x32x1 .f32 := broadcastInDim S65536x32x1 ![0, 1] bcast_S65536x32_S65536x32x1_0_1 main_v17
  let main_v19 : FVec F S65536x32x256 .f32 := broadcastInDim S65536x32x256 ![0, 1, 2] bcast_S65536x32x1_S65536x32x256_0_1_2 main_v18
  let main_v20 : IVec S65536x32x256 1 := cmpf .oeq main_v16 main_v19
  let main_v21 : IVec S65536x32x256 32 := (extui 32 · natLt_1_32) main_v20
  fn_part1 (F := F) main_v21
-- ==== Kernel.lean ====
abbrev S65536x256 : Shape := ⟨2, ![65536, 256]⟩
abbrev S256x256 : Shape := ⟨2, ![256, 256]⟩
abbrev S256 : Shape := ⟨1, ![256]⟩
abbrev S32x256x8 : Shape := ⟨3, ![32, 256, 8]⟩
abbrev S32x256 : Shape := ⟨2, ![32, 256]⟩
abbrev S32x8x256 : Shape := ⟨3, ![32, 8, 256]⟩
abbrev S32x32 : Shape := ⟨2, ![32, 32]⟩
abbrev S_ : Shape := ⟨0, ![]⟩
abbrev S32x8x1x256 : Shape := ⟨4, ![32, 8, 1, 256]⟩
abbrev S32x1x32x1 : Shape := ⟨4, ![32, 1, 32, 1]⟩
abbrev S32x8x32x256 : Shape := ⟨4, ![32, 8, 32, 256]⟩
abbrev S256x8192 : Shape := ⟨2, ![256, 8192]⟩
abbrev S128 : Shape := ⟨1, ![128]⟩
abbrev S1x128x1 : Shape := ⟨3, ![1, 128, 1]⟩
abbrev S32x1x32 : Shape := ⟨3, ![32, 1, 32]⟩
abbrev S32x128x32 : Shape := ⟨3, ![32, 128, 32]⟩
abbrev S4096x32 : Shape := ⟨2, ![4096, 32]⟩
abbrev S4096x64 : Shape := ⟨2, ![4096, 64]⟩
abbrev S1x256 : Shape := ⟨2, ![1, 256]⟩
abbrev S65536x32 : Shape := ⟨2, ![65536, 32]⟩
abbrev S1024x256 : Shape := ⟨2, ![1024, 256]⟩
abbrev S1024x32 : Shape := ⟨2, ![1024, 32]⟩
abbrev S1024 : Shape := ⟨1, ![1024]⟩
abbrev S1024x1 : Shape := ⟨2, ![1024, 1]⟩
abbrev S1024x128 : Shape := ⟨2, ![1024, 128]⟩
abbrev S1024x4096 : Shape := ⟨2, ![1024, 4096]⟩
abbrev S1024x64 : Shape := ⟨2, ![1024, 64]⟩

abbrev nBuf : Space → Nat
  | .hbm => 45
  | .vmem => 9
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S256, .f32⟩
  | .hbm, ⟨3, _⟩ => ⟨S32x256x8, .f32⟩
  | .hbm, ⟨4, _⟩ => ⟨S32x256, .f32⟩
  | .hbm, ⟨5, _⟩ => ⟨S65536x256, .bf16⟩
  | .hbm, ⟨6, _⟩ => ⟨S256x256, .f32⟩
  | .hbm, ⟨7, _⟩ => ⟨S256x256, .bf16⟩
  | .hbm, ⟨8, _⟩ => ⟨S32x8x256, .f32⟩
  | .hbm, ⟨9, _⟩ => ⟨S32x32, .i32⟩
  | .hbm, ⟨10, _⟩ => ⟨S32x32, .i32⟩
  | .hbm, ⟨11, _⟩ => ⟨S_, .i32⟩
  | .hbm, ⟨12, _⟩ => ⟨S32x32, .i32⟩
  | .hbm, ⟨13, _⟩ => ⟨S32x32, .i32⟩
  | .hbm, ⟨14, _⟩ => ⟨S32x32, .i1⟩
  | .hbm, ⟨15, _⟩ => ⟨S32x32, .f32⟩
  | .hbm, ⟨16, _⟩ => ⟨S_, .f32⟩
  | .hbm, ⟨17, _⟩ => ⟨S32x8x256, .f32⟩
  | .hbm, ⟨18, _⟩ => ⟨S32x8x256, .f32⟩
  | .hbm, ⟨19, _⟩ => ⟨S32x8x1x256, .f32⟩
  | .hbm, ⟨20, _⟩ => ⟨S32x1x32x1, .f32⟩
  | .hbm, ⟨21, _⟩ => ⟨S32x8x32x256, .f32⟩
  | .hbm, ⟨22, _⟩ => ⟨S32x8x32x256, .f32⟩
  | .hbm, ⟨23, _⟩ => ⟨S32x8x32x256, .f32⟩
  | .hbm, ⟨24, _⟩ => ⟨S256x8192, .f32⟩
  | .hbm, ⟨25, _⟩ => ⟨S256x8192, .bf16⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S1x128x1, .f32⟩
  | .hbm, ⟨30, _⟩ => ⟨S32x1x32, .f32⟩
  | .hbm, ⟨31, _⟩ => ⟨S32x128x32, .f32⟩
  | .hbm, ⟨32, _⟩ => ⟨S32x128x32, .f32⟩
  | .hbm, ⟨33, _⟩ => ⟨S32x128x32, .f32⟩
  | .hbm, ⟨34, _⟩ => ⟨S4096x32, .f32⟩
  | .hbm, ⟨35, _⟩ => ⟨S1x128x1, .f32⟩
  | .hbm, ⟨36, _⟩ => ⟨S32x1x32, .f32⟩
  | .hbm, ⟨37, _⟩ => ⟨S32x128x32, .f32⟩
  | .hbm, ⟨38, _⟩ => ⟨S32x128x32, .f32⟩
  | .hbm, ⟨39, _⟩ => ⟨S32x128x32, .f32⟩
  | .hbm, ⟨40, _⟩ => ⟨S4096x32, .f32⟩
  | .hbm, ⟨41, _⟩ => ⟨S4096x64, .f32⟩
  | .hbm, ⟨42, _⟩ => ⟨S1x256, .f32⟩
  | .hbm, ⟨43, _⟩ => ⟨S65536x32, .i32⟩
  | .hbm, ⟨44, _⟩ => ⟨S65536x32, .i8⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S1x256, .f32⟩
  | .local _ .vmem, ⟨4, _⟩ => ⟨S256x8192, .bf16⟩
  | .local _ .vmem, ⟨5, _⟩ => ⟨S32x256, .f32⟩
  | .local _ .vmem, ⟨6, _⟩ => ⟨S4096x64, .f32⟩
  | .local _ .vmem, ⟨7, _⟩ => ⟨S1024x32, .i32⟩
  | .local _ .vmem, ⟨8, _⟩ => ⟨S1024x32, .i32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x32 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S65536x256 : Shape := ⟨2, ![65536, 256]⟩
abbrev S256x256 : Shape := ⟨2, ![256, 256]⟩
abbrev S256 : Shape := ⟨1, ![256]⟩
abbrev S32x256x8 : Shape := ⟨3, ![32, 256, 8]⟩
abbrev S32x256 : Shape := ⟨2, ![32, 256]⟩
abbrev S1x256 : Shape := ⟨2, ![1, 256]⟩
abbrev S65536x32x1x8 : Shape := ⟨4, ![65536, 32, 1, 8]⟩
abbrev S32x8x256 : Shape := ⟨3, ![32, 8, 256]⟩
abbrev S1x32x8x256 : Shape := ⟨4, ![1, 32, 8, 256]⟩
abbrev S32x65536x1x256 : Shape := ⟨4, ![32, 65536, 1, 256]⟩
abbrev S65536x32x1x256 : Shape := ⟨4, ![65536, 32, 1, 256]⟩
abbrev S65536x32x256 : Shape := ⟨3, ![65536, 32, 256]⟩
abbrev S1x32x256 : Shape := ⟨3, ![1, 32, 256]⟩
abbrev S_ : Shape := ⟨0, ![]⟩
abbrev S65536x32 : Shape := ⟨2, ![65536, 32]⟩

abbrev nBuf : Space → Nat
  | .hbm => 29
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S256, .f32⟩
  | .hbm, ⟨3, _⟩ => ⟨S32x256x8, .f32⟩
  | .hbm, ⟨4, _⟩ => ⟨S32x256, .f32⟩
  | .hbm, ⟨5, _⟩ => ⟨S256x256, .f32⟩
  | .hbm, ⟨6, _⟩ => ⟨S65536x256, .f32⟩
  | .hbm, ⟨7, _⟩ => ⟨S1x256, .f32⟩
  | .hbm, ⟨8, _⟩ => ⟨S65536x256, .f32⟩
  | .hbm, ⟨9, _⟩ => ⟨S65536x256, .f32⟩
  | .hbm, ⟨10, _⟩ => ⟨S65536x32x1x8, .f32⟩
  | .hbm, ⟨11, _⟩ => ⟨S32x8x256, .f32⟩
  | .hbm, ⟨12, _⟩ => ⟨S1x32x8x256, .f32⟩
  | .hbm, ⟨13, _⟩ => ⟨S32x8x256, .f32⟩
  | .hbm, ⟨14, _⟩ => ⟨S32x65536x1x256, .f32⟩
  | .hbm, ⟨15, _⟩ => ⟨S65536x32x1x256, .f32⟩
  | .hbm, ⟨16, _⟩ => ⟨S65536x32x256, .f32⟩
  | .hbm, ⟨17, _⟩ => ⟨S1x32x256, .f32⟩
  | .hbm, ⟨18, _⟩ => ⟨S_, .f32⟩
  | .hbm, ⟨19, _⟩ => ⟨S65536x32x256, .f32⟩
  | .hbm, ⟨20, _⟩ => ⟨S65536x32x256, .f32⟩
  | .hbm, ⟨21, _⟩ => ⟨S65536x32x256, .f32⟩
  | .hbm, ⟨22, _⟩ => ⟨S65536x32x256, .f32⟩
  | .hbm, ⟨23, _⟩ => ⟨S65536x32x256, .i32⟩
  | .hbm, ⟨24, _⟩ => ⟨S_, .f32⟩
  | .hbm, ⟨25, _⟩ => ⟨S_, .i32⟩
  | .hbm, ⟨26, _⟩ => ⟨S65536x32, .f32⟩
  | .hbm, ⟨27, _⟩ => ⟨S65536x32, .i32⟩
  | .hbm, ⟨28, _⟩ => ⟨S65536x32, .i8⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.TieFacts.lean ====
/- The shape relations the precondition `no_tie` states of its operations. -/
module

public import proofs.«01_k».proof.Pre_no_tie

@[expose] public section

set_option maxRecDepth 16384

namespace Cert.Proof

open Idealize.ShloMosaic Idealize.SL.Sem

/-- Every shape relation the precondition's operations state holds: each is decided by computing on literal shapes. -/
instance tie_facts : Cert.Pre_no_tie.Facts where
  transposes_S256x256_S256x256_1_0 := by decide
  bcast_S256_S1x256_1 := by decide
  bcast_S1x256_S65536x256_0_1 := by decide
  shapeCasts_S65536x256_S65536x32x1x8 := by decide
  transposes_S32x256x8_S32x8x256_0_2_1 := by decide
  bcast_S32x8x256_S1x32x8x256_1_2_3 := by decide
  bcast_S32x256_S1x32x256_1_2 := by decide
  shapeCasts_S1x32x8x256_S32x8x256 := by decide
  transposes_S32x65536x1x256_S65536x32x1x256_1_0_2_3 := by decide
  shapeCasts_S65536x32x1x256_S65536x32x256 := by decide
  bcast_S_S65536x32x256 := by decide
  bcast_S1x32x256_S65536x32x256_0_1_2 := by decide
  reducesTo_S65536x32x256_S65536x32_d2 := by decide
  h_S_ := by decide
  bcast_S65536x32_S65536x32x1_0_1 := by decide
  bcast_S65536x32x1_S65536x32x256_0_1_2 := by decide
  natLt_1_32 := by decide
  bcast_S_S65536x32 := by decide
  dot_S65536x256_S256x256_S65536x256_1_0_0_1_n_n_wf := by decide
  dot_S65536x32x1x8_S32x8x256_S32x65536x1x256_3_1_02_2_1_0_wf := by decide

end Cert.Proof

end
-- ==== Proof.Frames.lean ====
/- What the four frame claims and the precondition's stated shape relations need. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.TieFacts
public import Idealize.ShloMosaic.Adequacy
public import Idealize.ShloMosaic.Init

@[expose] public section

set_option maxRecDepth 16384

noncomputable section

namespace Cert.Proof

open Idealize.ShloMosaic Idealize.SL.Sem

/-- The kernel, on machine floats, ends with its arguments unchanged and its semaphores at zero. -/
theorem kernel_quiescent : quiescent_Kernel (hKernel := Cert.Kernel.Gen.facts) :=
  fun m g _ => Cert.Kernel.Gen.frame m g

/-- The same for the kernel on extended reals. -/
theorem kernelIdeal_quiescent : quiescent_KernelIdeal (hKernelIdeal := Cert.KernelIdeal.Gen.facts) :=
  fun m g _ => Cert.KernelIdeal.Gen.frame m g

/-- The same for the reference on extended reals. -/
theorem referenceIdeal_quiescent :
    quiescent_ReferenceIdeal (hReferenceIdeal := Cert.ReferenceIdeal.Gen.facts) := by
  intro m g _
  refine (θ_run Cert.ReferenceIdeal.defs _ _).mono
    (fun r h => ⟨h, sem_eq_zero_of_no_sems (sig := Cert.ReferenceIdeal.sig) (by decide) r.2⟩) ?_
  hlo_run

/-- The kernel's frame holds under any precondition, so under the one that no row has a tie. -/
theorem kernelIdeal_quiescent_no_tie :
    quiescent_KernelIdeal_pre_no_tie (hKernelIdeal := Cert.KernelIdeal.Gen.facts) (hPre_no_tie := tie_facts) :=
  fun m g _ => kernelIdeal_quiescent m g trivial

/-- And so does the reference's. -/
theorem referenceIdeal_quiescent_no_tie :
    quiescent_ReferenceIdeal_pre_no_tie (hReferenceIdeal := Cert.ReferenceIdeal.Gen.facts) (hPre_no_tie := tie_facts) :=
  fun m g _ => referenceIdeal_quiescent m g trivial

end Cert.Proof

end
-- ==== Proof.Block.lean ====
/- What one grid point stores, with its thirty-two unrolled subspaces folded into one family. -/
module

public import proofs.«01_k».proof.Proof.Gen.KernelIdeal.Frame

@[expose] public section

set_option maxRecDepth 16384

noncomputable section

namespace Cert.KernelIdeal.Val

open Idealize.ShloMosaic Cert.KernelIdeal Cert.KernelIdeal.Gen

variable {F : FTy → Type} [FloatOps F]

/-- The columns `256 n … 256 n + 255` of the codebook lie inside it. -/
theorem cols_inb (n : Fin 32) : ∀ a, ![0, 256 * n.val] a + S256x256.size a ≤ S256x8192.size a := by
  intro a
  have := n.isLt
  fin_cases a
  · show 0 + 256 ≤ 256
    omega
  · show 256 * n.val + 256 ≤ 8192
    omega

/-- Row `n` of the squared norms lies inside them. -/
theorem row_inb (n : Fin 32) : ∀ a, ![n.val, 0] a + S1x256.size a ≤ S32x256.size a := by
  intro a
  have := n.isLt
  fin_cases a
  · show n.val + 1 ≤ 32
    omega
  · show 0 + 256 ≤ 256
    omega

/-- The codebook's columns that the kernel loads for subspace `n`. -/
def cols (x3 : Vec F S256x8192 .bf16) (n : Fin 32) : Vec F S256x256 .bf16 :=
  View.ld x3 (Rect.unit (s := S256x8192) ![0, 256 * n.val] S256x256.size (cols_inb n))

/-- The squared norms' row that the kernel loads for subspace `n`. -/
def row (x4 : Vec F S32x256 .f32) (n : Fin 32) : Vec F S1x256 .f32 :=
  View.ld x4 (Rect.unit (s := S32x256) ![n.val, 0] S1x256.size (row_inb n))

/-- One subspace's encoded selection: `1` where the first half's distance attains the row's least, plus `2` where the
    second half's does. -/
def pick (yb : FVec F S1024x256 .bf16) (c : Vec F S256x256 .bf16) (s : Vec F S1x256 .f32) : FVec F S1024x128 .f32 :=
  k0_pay6 yb c s

/-- The thirty-two selections side by side make the launch's selection array's shape. -/
theorem picks_fit (f : Fin 32 → FVec F S1024x128 .f32) :
    Shape.Concatenates ((List.ofFn fun n : Fin 32 => (⟨S1024x128, f n⟩ : (s : Shape) × (s.Idx → F .f32))).map (·.1))
      S1024x4096 1 :=
  (by decide : Shape.Concatenates (List.replicate 32 S1024x128) S1024x4096 1)

/-- The thirty-two subspaces' selections side by side. -/
def picks (yb : FVec F S1024x256 .bf16) (x3 : Vec F S256x8192 .bf16) (x4 : Vec F S32x256 .f32) : FVec F S1024x4096 .f32 :=
  concatenate S1024x4096 1
    (List.ofFn fun n : Fin 32 => (⟨S1024x128, pick yb (cols x3 n) (row x4 n)⟩ : (s : Shape) × (s.Idx → F .f32)))
    (picks_fit _)

/-- What a grid point stores: the codes computed from the selections of all thirty-two subspaces. -/
theorem out_eq (x0 : Vec F S1024x256 .bf16) (x1 : Vec F S256x256 .bf16) (x2 : Vec F S1x256 .f32)
    (x3 : Vec F S256x8192 .bf16) (x4 : Vec F S32x256 .f32) (x5 : Vec F S4096x64 .f32) :
    out0_6 x0 x1 x2 x3 x4 x5 = View.canon [⟨r0_68,
      k0_pay1 (picks (k0_pay2 (View.ld x0 r0_0) (View.ld x1 r0_1) (View.ld x2 r0_2)) x3 x4)
        (k0_pay78 (View.ld x5 r0_67))⟩] := by
  rfl

end Cert.KernelIdeal.Val

end
-- ==== Proof.Distance.lean ====
/- The mathematics both programs compute: the distances of a row's pieces to their subspace's centroids. -/
module

public import Idealize.ShloMosaic.Lib.Pointwise
public import Idealize.ShloMosaic.Lib.IdealHost
public import Idealize.ShloMosaic.PureOps.Ideal.Laws

@[expose] public section

noncomputable section

namespace Cert.Codes

open Idealize.ShloMosaic

/-- The projected rows `x Aᵀ + b`, at row `n` and column `j`. -/
def proj (x : FVec Ideal ⟨2, ![65536, 256]⟩ .f32) (A : FVec Ideal ⟨2, ![256, 256]⟩ .f32) (b : FVec Ideal ⟨1, ![256]⟩ .f32)
    (n : Fin 65536) (j : Fin 256) : EReal :=
  ∑ q : Fin 256, x (ix2 n q) * A (ix2 j q) + b (ix1 j)

/-- The distance, up to the row's own norm, of piece `s` of a projected row `y` to centroid `k` of subspace `s`: the
    centroid's squared norm less twice the inner product over the piece's eight columns. -/
def dist (y : Fin 256 → EReal) (ce : FVec Ideal ⟨3, ![32, 256, 8]⟩ .f32) (n2 : FVec Ideal ⟨2, ![32, 256]⟩ .f32)
    (s : Fin 32) (k : Fin 256) : EReal :=
  n2 (ix2 s k) - 2 * ∑ t : Fin 8, y ⟨s.val * 8 + t.val, by omega⟩ * ce (ix3 s k t)

/-- `k` is the one index at which `d` is least: every other value is greater. -/
def Picked (d : Fin 256 → EReal) (k : Fin 256) : Prop := ∀ j, j ≠ k → d k < d j

/-! ## The constants the two programs write -/

/-- The pattern of `2.0`. -/
theorem ofBits_two : Ideal.ofBits .f32 0x40000000#32 = 2 := by
  rw [show (2 : EReal) = ((2 : ℝ) : EReal) by norm_cast]
  simp [Ideal.ofBits, Ideal.ieee, -EReal.coe_mul]; norm_num

/-- The pattern of `1.5`. -/
theorem ofBits_three_halves : Ideal.ofBits .f32 0x3FC00000#32 = ((3 / 2 : ℝ) : EReal) := by
  simp [Ideal.ofBits, Ideal.ieee, -EReal.coe_mul]; norm_num

/-- The pattern of `0.5`. -/
theorem ofBits_half : Ideal.ofBits .f32 0x3F000000#32 = ((1 / 2 : ℝ) : EReal) := by
  simp [Ideal.ofBits, Ideal.ieee, -EReal.coe_mul]; norm_num

/-- The pattern of `128.0`. -/
theorem ofBits_128 : Ideal.ofBits .f32 0x43000000#32 = ((128 : ℝ) : EReal) := by
  simp [Ideal.ofBits, Ideal.ieee, -EReal.coe_mul]; norm_num

/-- The pattern of `+∞`. -/
theorem ofBits_inf : Ideal.ofBits .f32 0x7F800000#32 = ⊤ := by
  simp [Ideal.ofBits, Ideal.ieee]

/-! ## Sums over two nested indices -/

/-- A sum over `p * q` places is the sum over `p` groups of `q` places each. -/
theorem sum_groups (p q N : Nat) (hN : p * q = N) (f : Fin N → EReal) :
    ∑ i, f i = ∑ a : Fin p, ∑ b : Fin q, f ⟨a.val * q + b.val, by
      subst hN
      calc a.val * q + b.val < a.val * q + q := by omega
        _ = (a.val + 1) * q := by ring
        _ ≤ p * q := Nat.mul_le_mul_right q a.isLt⟩ := by
  subst hN
  rw [← Fintype.sum_prod_type' (f := fun (a : Fin p) (b : Fin q) => f ⟨a.val * q + b.val, _⟩)]
  refine (Fintype.sum_equiv finProdFinEquiv _ _ fun ab => ?_).symm
  refine congrArg f (Fin.ext ?_)
  simp [finProdFinEquiv, Nat.mul_comm, Nat.add_comm]

/-- Doubling an extended real sum doubles its terms. -/
theorem two_mul_sum {ι : Type} (s : Finset ι) (f : ι → EReal) : 2 * ∑ i ∈ s, f i = ∑ i ∈ s, 2 * f i := by
  classical
  induction s using Finset.induction_on with
  | empty => simp
  | insert a s ha ih =>
    rw [Finset.sum_insert ha, Finset.sum_insert ha, ← ih]
    exact EReal.left_distrib_of_nonneg_of_ne_top (by norm_num) (by exact_mod_cast EReal.coe_ne_top (2 : ℝ)) _ _

end Cert.Codes

end
-- ==== Proof.Least.lean ====
/- The one least distance, seen three ways: by the precondition's count, by a comparison with the minimum, and by the
   reference's running arg-min. -/
module

public import proofs.«01_k».proof.Proof.Distance

@[expose] public section

noncomputable section

namespace Cert.Codes

open Idealize.ShloMosaic

/-- The running minimum from `+∞` is at most each value. -/
theorem fold_min_le (d : Fin 256 → EReal) (j : Fin 256) : Finset.fold min ⊤ d Finset.univ ≤ d j :=
  (Finset.fold_min_le _).mpr (.inr ⟨j, Finset.mem_univ _, le_rfl⟩)

/-- Where one index is picked, the minimum is the value there. -/
theorem fold_min_eq {d : Fin 256 → EReal} {k : Fin 256} (h : Picked d k) : Finset.fold min ⊤ d Finset.univ = d k := by
  refine le_antisymm (fold_min_le d k) ((Finset.le_fold_min _).mpr ⟨le_top, fun j _ => ?_⟩)
  by_cases hj : j = k
  · exact hj ▸ le_rfl
  · exact (h j hj).le

/-- Where one index is picked, only it is at or below the minimum. -/
theorem le_fold_min_iff {d : Fin 256 → EReal} {k : Fin 256} (h : Picked d k) (j : Fin 256) :
    d j ≤ Finset.fold min ⊤ d Finset.univ ↔ j = k := by
  rw [fold_min_eq h]
  constructor
  · intro hle
    by_contra hj
    exact absurd (h j hj) (not_lt.mpr hle)
  · rintro rfl
    exact le_rfl

/-- The picked value is below `+∞`: another one is above it. -/
theorem picked_lt_top {d : Fin 256 → EReal} {k : Fin 256} (h : Picked d k) : d k < ⊤ := by
  by_cases hk : k = 0
  · exact (h 1 (by rw [hk]; decide)).trans_le le_top
  · exact (h 0 (Ne.symm hk)).trans_le le_top

/-- Adding up the bits of a predicate in 32-bit words gives the word of the number of places where it holds. -/
theorem fold_bits (s : Finset (Fin 256)) (p : Fin 256 → Bool) :
    Finset.fold IntOp.addi 0#32 (fun k => BitVec.setWidth 32 (BitVec.ofBool (p k))) s
      = BitVec.ofNat 32 (s.filter fun k => p k = true).card := by
  classical
  induction s using Finset.induction_on with
  | empty => rfl
  | insert a s ha ih =>
    rw [Finset.fold_insert ha, ih, Finset.filter_insert]
    by_cases hp : p a = true
    · rw [if_pos hp, Finset.card_insert_of_notMem (by simp [ha]), hp, Nat.add_comm, BitVec.ofNat_add]
      rfl
    · rw [if_neg hp, (Bool.not_eq_true _).mp hp]
      exact BitVec.zero_add _

/-- If exactly one value equals the minimum, counted in 32-bit words, some index is picked. -/
theorem exists_picked (d : Fin 256 → EReal)
    (h : Finset.fold IntOp.addi 0#32
      (fun k => BitVec.setWidth 32 (BitVec.ofBool (decide (d k = Finset.fold min ⊤ d Finset.univ)))) Finset.univ = 1#32) :
    ∃ k, Picked d k := by
  rw [fold_bits] at h
  have hle := Finset.card_le_univ (Finset.univ.filter fun k => decide (d k = Finset.fold min ⊤ d Finset.univ) = true)
  rw [Fintype.card_fin] at hle
  have h1 : (Finset.univ.filter fun k => decide (d k = Finset.fold min ⊤ d Finset.univ) = true).card = 1 := by
    have := congrArg BitVec.toNat h
    simp only [BitVec.toNat_ofNat] at this
    omega
  obtain ⟨k, hk⟩ := Finset.card_eq_one.mp h1
  have hmem : ∀ j, d j = Finset.fold min ⊤ d Finset.univ ↔ j = k := by
    intro j
    have := congrArg (j ∈ ·) hk
    simpa using this
  refine ⟨k, fun j hj => ?_⟩
  rw [(hmem k).mpr rfl]
  exact lt_of_le_of_ne (fold_min_le d j) fun he => hj ((hmem j).mp he.symm)

/-- A running arg-min over pairs. If `step` keeps the pair of the smaller value, and among the pairs of the list the
    pair `p` has a value below all others' and below the start's, the fold ends at `p`. -/
theorem foldl_least {β : Type} (step : EReal × β → EReal × β → EReal × β)
    (hkeep : ∀ a b, a.1 < b.1 → step a b = a) (htake : ∀ a b, b.1 < a.1 → step a b = b) (hself : ∀ a, step a a = a)
    (hfst : ∀ a b, (step a b).1 = a.1 ∨ (step a b).1 = b.1)
    (p : EReal × β) : ∀ (l : List (EReal × β)) (a : EReal × β), (∀ q ∈ l, q = p ∨ p.1 < q.1) →
      (a = p ∨ (p.1 < a.1 ∧ p ∈ l)) → l.foldl step a = p
  | [], a, _, h => by
    rcases h with h | ⟨_, h⟩
    · exact h
    · exact absurd h (List.not_mem_nil)
  | q :: l, a, hl, h => by
    rw [List.foldl_cons]
    refine foldl_least step hkeep htake hself hfst p l _ (fun r hr => hl r (List.mem_cons_of_mem _ hr)) ?_
    rcases hl q List.mem_cons_self with hq | hq
    · subst hq
      rcases h with h | ⟨h, _⟩
      · exact .inl (by rw [h, hself])
      · exact .inl (htake _ _ h)
    · rcases h with h | ⟨h, hm⟩
      · exact .inl (by rw [h]; exact hkeep _ _ hq)
      · refine .inr ⟨?_, ?_⟩
        · rcases hfst a q with he | he
          · rw [he]; exact h
          · rw [he]; exact hq
        · rcases List.mem_cons.mp hm with he | he
          · exact absurd (he ▸ hq) (lt_irrefl _)
          · exact he

end Cert.Codes

end
-- ==== Proof.OneHot.lean ====
/- The kernel's way to a code: a selection that is `1` or `2` at one place, two sums over it, and the code decoded. -/
module

public import proofs.«01_k».proof.Proof.Least

@[expose] public section

noncomputable section

namespace Cert.Codes

open Idealize.ShloMosaic

/-- The selection at place `k` of a half row: `1` if the first half's value there is at most the minimum, plus `2` if the
    second half's is. -/
def sel (d : Fin 256 → EReal) (k : Fin 128) : EReal :=
  (if d ⟨k.val, by omega⟩ ≤ Finset.fold min ⊤ d Finset.univ then 1 else 0)
    + (if d ⟨128 + k.val, by omega⟩ ≤ Finset.fold min ⊤ d Finset.univ then 2 else 0)

/-- The code decoded from the weighted sum `a` and the plain sum `h` of a selection. -/
def decode (a h : EReal) : EReal :=
  if ((3 / 2 : ℝ) : EReal) ≤ h then ((1 / 2 : ℝ) : EReal) * a + ((128 : ℝ) : EReal) else a

/-- With one index picked the selection is a single `1` or a single `2`, in the half of that index. -/
theorem sel_eq {d : Fin 256 → EReal} {q : Fin 256} (h : Picked d q) (k : Fin 128) :
    sel d k = if k.val = q.val % 128 then (if q.val < 128 then 1 else 2) else 0 := by
  have hk := k.isLt
  have hq := q.isLt
  unfold sel
  simp only [le_fold_min_iff h, Fin.ext_iff]
  by_cases h1 : q.val < 128
  · rw [if_neg (show ¬ 128 + k.val = q.val by omega), add_zero, Nat.mod_eq_of_lt h1, if_pos h1]
  · rw [if_neg (show ¬ k.val = q.val by omega), zero_add, if_neg h1]
    exact if_congr (by omega) rfl rfl

/-- Any sum weighted by the selection is the one term at the picked place. -/
theorem sum_sel {d : Fin 256 → EReal} {q : Fin 256} (h : Picked d q) (w : Fin 128 → EReal) :
    ∑ k, sel d k * w k = (if q.val < 128 then 1 else 2) * w ⟨q.val % 128, Nat.mod_lt _ (by decide)⟩ := by
  simp only [sel_eq h]
  rw [Finset.sum_eq_single (⟨q.val % 128, Nat.mod_lt _ (by decide)⟩ : Fin 128)]
  · rw [if_pos rfl]
  · intro k _ hk
    rw [if_neg fun he => hk (Fin.ext he), zero_mul]
  · exact fun hn => absurd (Finset.mem_univ _) hn

/-- The two sums over a selection decode to the picked index. -/
theorem decode_sel {d : Fin 256 → EReal} {q : Fin 256} (h : Picked d q) :
    decode (∑ k : Fin 128, sel d k * ((k.val : ℝ) : EReal)) (∑ k : Fin 128, sel d k * 1) = ((q.val : ℝ) : EReal) := by
  have hq := q.isLt
  rw [sum_sel h, sum_sel h (fun _ => 1)]
  unfold decode
  by_cases h1 : q.val < 128
  · simp only [if_pos h1, Nat.mod_eq_of_lt h1, one_mul]
    rw [if_neg]
    rw [not_le, ← EReal.coe_one, EReal.coe_lt_coe_iff]
    norm_num
  · simp only [if_neg h1, mul_one]
    rw [if_pos (by rw [show (2 : EReal) = ((2 : ℝ) : EReal) by norm_cast, EReal.coe_le_coe_iff]; norm_num),
      show (2 : EReal) = ((2 : ℝ) : EReal) by norm_cast, ← EReal.coe_mul, ← EReal.coe_mul, ← EReal.coe_add]
    congr 1
    have : q.val % 128 = q.val - 128 := by omega
    rw [this, Nat.cast_sub (by omega)]
    push_cast
    ring

/-- The word of a code: converting its extended real to 32 bits gives its own pattern. -/
theorem fptosi_code (q : Fin 256) : FloatOps.fptosi (F := Ideal) (φ := .f32) 32 ((q.val : ℝ) : EReal) = BitVec.ofNat 32 q.val := by
  have hq := q.isLt
  show Ideal.fptosi 32 _ = _
  rw [Ideal.fptosi, Ideal.toIntClamped_coe, if_pos (Nat.cast_nonneg _), Int.floor_natCast,
    min_eq_right (by norm_num; omega), max_eq_right (by norm_num), BitVec.ofInt_natCast]

end Cert.Codes

end
-- ==== Proof.Select.lean ====
/- What one grid point stores, read one entry at a time on extended reals: the code decoded from the selection of the
   entry's subspace. -/
module

public import proofs.«01_k».proof.Proof.Block
public import proofs.«01_k».proof.Proof.OneHot
public import Idealize.ShloMosaic.Lib.Pointwise
public import Idealize.ShloMosaic.Lib.Pipeline.ValueKit

@[expose] public section

set_option maxRecDepth 16384

noncomputable section

namespace Cert.KernelIdeal.Val

open Idealize.ShloMosaic Cert.KernelIdeal Cert.KernelIdeal.Gen Cert.Codes

/-- A loaded block of codebook columns, at an entry. -/
theorem cols_apply (x3 : Vec Ideal S256x8192 .bf16) (n : Fin 32) (j k : Fin 256) :
    cols x3 n (ix2 j k) = x3 (ix2 j ⟨256 * n.val + k.val, by omega⟩) := by
  unfold cols
  pointwise []

/-- A loaded row of squared norms, at an entry. -/
theorem row_apply (x4 : Vec Ideal S32x256 .f32) (n : Fin 32) (k : Fin 256) : row x4 n (ix2 0 k) = x4 (ix2 n k) := by
  unfold row
  pointwise []

/-- The kernel's projected rows. -/
theorem project_apply (v0 : Vec Ideal S1024x256 .bf16) (v2 : Vec Ideal S256x256 .bf16) (v5 : Vec Ideal S1x256 .f32)
    (r : Fin 1024) (j : Fin 256) :
    k0_pay2 v0 v2 v5 (ix2 r j) = ∑ q : Fin 256, v0 (ix2 r q) * v2 (ix2 q j) + v5 (ix2 0 j) := by
  unfold k0_pay2
  pointwise []

/-- One subspace's selection is the selection of the distances it computes: norm less product. -/
theorem pick_apply (yb : FVec Ideal S1024x256 .bf16) (c : Vec Ideal S256x256 .bf16) (s : Vec Ideal S1x256 .f32)
    (r : Fin 1024) (k : Fin 128) :
    pick yb c s (ix2 r k) = sel (fun q => s (ix2 0 q) - ∑ j : Fin 256, yb (ix2 r j) * c (ix2 j q)) k := by
  unfold pick k0_pay6 sel
  pointwise [ofBits_two, ofBits_inf]

/-- Column `128 n + k` of the selection array is column `k` of subspace `n`'s selection. -/
theorem picks_apply (yb : FVec Ideal S1024x256 .bf16) (x3 : Vec Ideal S256x8192 .bf16) (x4 : Vec Ideal S32x256 .f32)
    (r : Fin 1024) (n : Fin 32) (k : Fin 128) :
    picks yb x3 x4 (ix2 r (⟨n.val * 128 + k.val, by omega⟩ : Fin 4096)) = pick yb (cols x3 n) (row x4 n) (ix2 r k) := by
  unfold picks
  refine concatenate_ofFn_apply (t := S1024x4096) (s₁ := S1024x128) 1
    (fun n : Fin 32 => pick yb (cols x3 n) (row x4 n)) (picks_fit _) rfl 128 rfl _ n ?_ _ ?_ ?_
  · show (n.val * 128 + k.val) / 128 = n.val
    omega
  · show k.val = (n.val * 128 + k.val) % 128
    omega
  · intro b hb
    fin_cases b
    · rfl
    · exact absurd rfl hb

/-- The codes from a selection array `e` and its weights `w`: both column sums, decoded, as a word. -/
theorem codes_apply (e : FVec Ideal S1024x4096 .f32) (w : FVec Ideal S4096x64 .f32) (r : Fin 1024) (n : Fin 32) :
    k0_pay1 e w (ix2 r n) = FloatOps.fptosi (F := Ideal) (φ := .f32) 32
      (decode (∑ x : Fin 4096, e (ix2 r x) * w (ix2 x ⟨n.val, by omega⟩))
        (∑ x : Fin 4096, e (ix2 r x) * w (ix2 x ⟨32 + n.val, by omega⟩))) := by
  unfold k0_pay1 decode
  pointwise [ofBits_three_halves, ofBits_half, ofBits_128]

/-- A sum over all selections whose weights are zero off subspace `n` is the sum over subspace `n`'s. -/
theorem sum_picks (yb : FVec Ideal S1024x256 .bf16) (x3 : Vec Ideal S256x8192 .bf16) (x4 : Vec Ideal S32x256 .f32)
    (r : Fin 1024) (n : Fin 32) (w : Fin 4096 → EReal) (v : Fin 128 → EReal)
    (hw : ∀ (s : Fin 32) (k : Fin 128), w ⟨s.val * 128 + k.val, by omega⟩ = v k * if s = n then 1 else 0) :
    ∑ x : Fin 4096, picks yb x3 x4 (ix2 r x) * w x
      = ∑ k : Fin 128, pick yb (cols x3 n) (row x4 n) (ix2 r k) * v k := by
  rw [sum_groups 32 128 4096 rfl, Finset.sum_eq_single n]
  · refine Finset.sum_congr rfl fun k _ => ?_
    rw [picks_apply, hw, if_pos rfl, mul_one]
  · intro s _ hs
    refine Finset.sum_eq_zero fun k _ => ?_
    rw [hw, if_neg hs, mul_zero, mul_zero]
  · exact fun h => absurd (Finset.mem_univ _) h

/-- Against a codebook that holds twice subspace `s`'s centroids on the rows of piece `s` and zero elsewhere, the
    kernel's norm less product is the distance. -/
theorem dist_eq (y : Fin 256 → EReal) (x3 : Vec Ideal S256x8192 .bf16) (x4 : Vec Ideal S32x256 .f32)
    (ce : FVec Ideal ⟨3, ![32, 256, 8]⟩ .f32) (n : Fin 32)
    (hcb : ∀ (s : Fin 32) (t : Fin 8) (k : Fin 256),
      x3 (ix2 ⟨s.val * 8 + t.val, by omega⟩ ⟨256 * n.val + k.val, by omega⟩)
        = 2 * ce (ix3 s k t) * if s = n then 1 else 0) (k : Fin 256) :
    row x4 n (ix2 0 k) - ∑ j : Fin 256, y j * cols x3 n (ix2 j k) = Codes.dist y ce x4 n k := by
  unfold Codes.dist
  rw [row_apply]
  congr 1
  rw [sum_groups 32 8 256 rfl, two_mul_sum, Finset.sum_eq_single n]
  · refine Finset.sum_congr rfl fun t _ => ?_
    rw [cols_apply, hcb, if_pos rfl, mul_one, mul_left_comm]
  · intro s _ hs
    refine Finset.sum_eq_zero fun t _ => ?_
    rw [cols_apply, hcb, if_neg hs, mul_zero, mul_zero]
  · exact fun h => absurd (Finset.mem_univ _) h

/-- THE BLOCK. Where the codebook and the weights are what the launch is given, and one centroid is at the least
    distance from piece `n` of the projected row `r`, a grid point stores that centroid's index. -/
theorem out_apply (x0 : Vec Ideal S1024x256 .bf16) (x1 : Vec Ideal S256x256 .bf16) (x2 : Vec Ideal S1x256 .f32)
    (x3 : Vec Ideal S256x8192 .bf16) (x4 : Vec Ideal S32x256 .f32) (x5 : Vec Ideal S4096x64 .f32)
    (ce : FVec Ideal ⟨3, ![32, 256, 8]⟩ .f32) (r : Fin 1024) (n : Fin 32) (q : Fin 256)
    (hcb : ∀ (s : Fin 32) (t : Fin 8) (k : Fin 256),
      x3 (ix2 ⟨s.val * 8 + t.val, by omega⟩ ⟨256 * n.val + k.val, by omega⟩)
        = 2 * ce (ix3 s k t) * if s = n then 1 else 0)
    (hidx : ∀ (s : Fin 32) (k : Fin 128),
      x5 (ix2 ⟨s.val * 128 + k.val, by omega⟩ ⟨n.val, by omega⟩) = ((k.val : ℝ) : EReal) * if s = n then 1 else 0)
    (hone : ∀ (s : Fin 32) (k : Fin 128),
      x5 (ix2 ⟨s.val * 128 + k.val, by omega⟩ ⟨32 + n.val, by omega⟩) = 1 * if s = n then 1 else 0)
    (hq : Picked (Codes.dist (fun j => ∑ p : Fin 256, x0 (ix2 r p) * x1 (ix2 p j) + x2 (ix2 0 j)) ce x4 n) q) :
    out0_6 x0 x1 x2 x3 x4 x5 (ix2 r n) = BitVec.ofNat 32 q.val := by
  rw [out_eq]
  frame_out
  have hw : k0_pay78 x5 = x5 := by
    unfold k0_pay78
    exact shapeCast_self _ _
  rw [codes_apply, hw]
  rw [sum_picks _ x3 x4 r n (fun x => x5 (ix2 x ⟨n.val, by omega⟩)) (fun k => ((k.val : ℝ) : EReal)) hidx,
    sum_picks _ x3 x4 r n (fun x => x5 (ix2 x ⟨32 + n.val, by omega⟩)) (fun _ => 1) hone]
  have hd : (fun k : Fin 256 => row x4 n (ix2 0 k)
      - ∑ j : Fin 256, k0_pay2 x0 x1 x2 (ix2 r j) * cols x3 n (ix2 j k))
      = Codes.dist (fun j => ∑ p : Fin 256, x0 (ix2 r p) * x1 (ix2 p j) + x2 (ix2 0 j)) ce x4 n := by
    funext k
    rw [← dist_eq _ x3 x4 ce n hcb k]
    refine congrArg _ (Finset.sum_congr rfl fun j _ => ?_)
    rw [project_apply]
  simp only [pick_apply, hd]
  rw [decode_sel hq, fptosi_code]

end Cert.KernelIdeal.Val

end
-- ==== Proof.Operands.lean ====
/- The arrays the launch builds before the kernel runs, read at an entry: the projection in the layout the kernel
   takes, the codebook spread over its pieces, and the weights that turn selections into codes. -/
module

public import proofs.«01_k».proof.Proof.Gen.KernelIdeal.Frame
public import proofs.«01_k».proof.Proof.Distance
public import Idealize.ShloMosaic.Lib.Pointwise
public import Idealize.ShloMosaic.Lib.Pipeline.ValueKit
public import Idealize.ShloMosaic.Lib.Claim
public import Idealize.ShloMosaic.PureOps.Ideal.Laws

@[expose] public section

set_option maxRecDepth 16384

noncomputable section

namespace Cert.KernelIdeal.Val

open Idealize.ShloMosaic Idealize.ShloMosaic.TcCoe Cert.KernelIdeal Cert.KernelIdeal.Gen Cert.Codes

variable (m : (ℓ : Loc nD τ sig) → Buf (Elt Ideal) ℓ) (c : Dev nD)

/-- Equality of two small indices, compared as words and converted to a float: one where equal, zero elsewhere. -/
theorem eye_eq (a b : ℕ) (ha : a < 32) (hb : b < 32) :
    (FloatOps.uitofp (F := Ideal) .f32 (IntOp.cmpi .eq (IntOp.addi (BitVec.ofNat 32 a) 0#32) (BitVec.ofNat 32 b)) : EReal)
      = if a = b then 1 else 0 := by
  have hab : IntOp.addi (BitVec.ofNat 32 a) 0#32 = BitVec.ofNat 32 a := by simp [IntOp.addi]
  rw [hab]
  by_cases h : a = b
  · subst h
    simp [FloatOps.uitofp, IntOp.cmpi]
  · have hne : BitVec.ofNat 32 a ≠ BitVec.ofNat 32 b := by
      intro e
      have := congrArg BitVec.toNat e
      simp only [BitVec.toNat_ofNat] at this
      omega
    simp [FloatOps.uitofp, IntOp.cmpi, h, hne]

/-- A small index as a word, converted to a float, is that index. -/
theorem index_eq (k : ℕ) (hk : k < 128) :
    (FloatOps.sitofp (F := Ideal) .f32 (BitVec.ofNat 32 k) : EReal) = ((k : ℝ) : EReal) := by
  have : (BitVec.ofNat 32 k).toInt = (k : ℤ) := by
    rw [BitVec.toInt_ofNat']
    simp only [Int.bmod]
    omega
  simp [FloatOps.sitofp, this]

/-- The rows the kernel reads are the launched rows. -/
theorem rows_apply (n : Fin 65536) (q : Fin 256) :
    (V m c main_v0 : Vec Ideal S65536x256 .bf16) (ix2 n q)
      = (m (c, Proc.tc.devRef main_arg0) : Vec Ideal S65536x256 .f32) (ix2 n q) := by
  simp only [V, V0, List.flatten_cons, List.flatten_nil, List.append_nil, hostOps0]
  after_results
  pointwise []

/-- The projection the kernel reads is the launched one, transposed. -/
theorem proj_apply (q j : Fin 256) :
    (V m c main_v2 : Vec Ideal S256x256 .bf16) (ix2 q j)
      = (m (c, Proc.tc.devRef main_arg1) : Vec Ideal S256x256 .f32) (ix2 j q) := by
  simp only [V, V0, List.flatten_cons, List.flatten_nil, List.append_nil, hostOps0]
  after_results
  pointwise []

/-- The bias row the kernel reads is the launched bias. -/
theorem bias_apply (j : Fin 256) :
    (V m c main_v34 : Vec Ideal S1x256 .f32) (ix2 0 j)
      = (m (c, Proc.tc.devRef main_arg2) : Vec Ideal S256 .f32) (ix1 j) := by
  simp only [V, V0, List.flatten_cons, List.flatten_nil, List.append_nil, hostOps0]
  after_results
  pointwise []

/-- The codebook the kernel reads: column `256 n + k` holds twice centroid `k` of subspace `n` on the rows of piece
    `n`, and zero on every other row. -/
theorem codebook_apply (s n : Fin 32) (t : Fin 8) (k : Fin 256) :
    (V m c main_v18 : Vec Ideal S256x8192 .bf16) (ix2 (⟨s.val * 8 + t.val, by omega⟩ : Fin 256)
        (⟨256 * n.val + k.val, by omega⟩ : Fin 8192))
      = (2 * (m (c, Proc.tc.devRef main_arg3) : Vec Ideal S32x256x8 .f32) (ix3 s k t) * (if s = n then 1 else 0) : EReal) := by
  have key : ∀ (j : Fin 256) (q : Fin 8192), (V m c main_v18 : Vec Ideal S256x8192 .bf16) (ix2 j q)
      = Ideal.ofBits .f32 0x40000000#32 * (m (c, Proc.tc.devRef main_arg3) : Vec Ideal S32x256x8 .f32)
          (ix3 ⟨j.val / 8, by omega⟩ ⟨q.val % 256, by omega⟩ ⟨j.val % 8, by omega⟩)
        * FloatOps.uitofp (F := Ideal) .f32 (IntOp.cmpi .eq (IntOp.addi (BitVec.ofNat 32 (j.val / 8)) 0#32)
          (BitVec.ofNat 32 (q.val / 256))) := by
    intro j q
    simp only [V, V0, List.flatten_cons, List.flatten_nil, List.append_nil, hostOps0]
    after_results
    pointwise []
  have e1 : (s.val * 8 + t.val) / 8 = s.val := by omega
  have e2 : (s.val * 8 + t.val) % 8 = t.val := by omega
  have e3 : (256 * n.val + k.val) / 256 = n.val := by omega
  have e4 : (256 * n.val + k.val) % 256 = k.val := by omega
  rw [key, eye_eq _ _ (by omega) (by omega), ofBits_two]
  simp only [e1, e2, e3, e4, Fin.ext_iff]

/-- The weights array at an entry: the first 32 columns count a selection by its column, the last 32 once. -/
theorem weights_apply (j : Fin 4096) (q : Fin 64) :
    (V m c main_v33 : Vec Ideal S4096x64 .f32) (ix2 j q)
      = (if q.val < 32 then (((j.val % 128 : ℕ) : ℝ) : EReal) * (if j.val / 128 = q.val then 1 else 0)
        else if j.val / 128 = q.val - 32 then 1 else 0 : EReal) := by
  have key : (V m c main_v33 : Vec Ideal S4096x64 .f32) (ix2 j q)
      = if q.val < 32 then FloatOps.sitofp (F := Ideal) .f32 (BitVec.ofNat 32 (j.val % 128))
            * FloatOps.uitofp (F := Ideal) .f32 (IntOp.cmpi .eq (IntOp.addi (BitVec.ofNat 32 (j.val / 128)) 0#32)
              (BitVec.ofNat 32 q.val))
        else FloatOps.uitofp (F := Ideal) .f32 (IntOp.cmpi .eq (IntOp.addi (BitVec.ofNat 32 (j.val / 128)) 0#32)
              (BitVec.ofNat 32 (q.val - 32))) := by
    simp only [V, V0, List.flatten_cons, List.flatten_nil, List.append_nil, hostOps0]
    after_results
    pointwise []
    rfl
  rw [key, index_eq _ (by omega)]
  by_cases h : q.val < 32
  · rw [if_pos h, if_pos h, eye_eq _ _ (by omega) h]
  · rw [if_neg h, if_neg h, eye_eq _ _ (by omega) (by omega)]

/-- Column `n` of the weights: the selections of subspace `n` weigh their column, the others nothing. -/
theorem weights_index (n s : Fin 32) (k : Fin 128) :
    (V m c main_v33 : Vec Ideal S4096x64 .f32) (ix2 (⟨s.val * 128 + k.val, by omega⟩ : Fin 4096)
        (⟨n.val, by omega⟩ : Fin 64)) = (((k.val : ℝ) : EReal) * (if s = n then 1 else 0) : EReal) := by
  have e1 : (s.val * 128 + k.val) / 128 = s.val := by omega
  have e2 : (s.val * 128 + k.val) % 128 = k.val := by omega
  rw [weights_apply, if_pos n.isLt]
  simp only [e1, e2, Fin.ext_iff]

/-- Column `32 + n` of the weights: the selections of subspace `n` weigh one, the others nothing. -/
theorem weights_one (n s : Fin 32) (k : Fin 128) :
    (V m c main_v33 : Vec Ideal S4096x64 .f32) (ix2 (⟨s.val * 128 + k.val, by omega⟩ : Fin 4096)
        (⟨32 + n.val, by omega⟩ : Fin 64)) = (1 * (if s = n then 1 else 0) : EReal) := by
  have e1 : (s.val * 128 + k.val) / 128 = s.val := by omega
  rw [weights_apply, if_neg (by show ¬ 32 + n.val < 32; omega), one_mul]
  simp only [e1, Nat.add_sub_cancel_left, Fin.ext_iff]

end Cert.KernelIdeal.Val

end
-- ==== Proof.Array.lean ====
/- What the kernel leaves in its output array, and what the result holds once it has been narrowed to bytes. -/
module

public import proofs.«01_k».proof.Proof.Select
public import proofs.«01_k».proof.Proof.Operands

@[expose] public section

set_option maxRecDepth 16384

noncomputable section

namespace Cert.KernelIdeal.Val

open Idealize.ShloMosaic Idealize.ShloMosaic.TcCoe Cert.KernelIdeal Cert.KernelIdeal.Gen Cert.Codes

variable (m : (ℓ : Loc nD τ sig) → Buf (Elt Ideal) ℓ) (c : Dev nD)

/-- The launched distances: from piece `s` of the projection of row `n` to each centroid of subspace `s`. -/
def mdist (n : Fin 65536) (s : Fin 32) : Fin 256 → EReal :=
  Codes.dist (proj (m (c, Proc.tc.devRef main_arg0) : Vec Ideal S65536x256 .f32)
      (m (c, Proc.tc.devRef main_arg1) : Vec Ideal S256x256 .f32) (m (c, Proc.tc.devRef main_arg2) : Vec Ideal S256 .f32) n)
    (m (c, Proc.tc.devRef main_arg3) : Vec Ideal S32x256x8 .f32)
    (m (c, Proc.tc.devRef main_arg4) : Vec Ideal S32x256 .f32) s

/-- Every window's block index at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The array of codes. -/
def codeArr (K : Fin 65536 → Fin 32 → Fin 256) : Vec Ideal S65536x32 .i32 := fun i => BitVec.ofNat 32 (K (i 0) (i 1)).val

/-- A block of rows: row `r` of grid point `t` is row `1024 t + r`. -/
theorem iblk_rows (t : Fin cfg0.N) (r : Fin 1024) (q : Fin 256) (h : t.val * 1024 + r.val < 65536) :
    (iblk m c 0 t : Vec Ideal S1024x256 .bf16) (ix2 r q)
      = (V m c main_v0 : Vec Ideal S65536x256 .bf16) (ix2 ⟨t.val * 1024 + r.val, h⟩ q) := by
  blk_ext [iblk, idx t]

/-- Every grid point reads the whole projection. -/
theorem iblk_proj (t : Fin cfg0.N) : iblk m c 1 t = V m c main_v2 := by
  blk_ext! [iblk, idx t]
/-- Every grid point reads the whole bias row. -/
theorem iblk_bias (t : Fin cfg0.N) : iblk m c 2 t = V m c main_v34 := by
  blk_ext! [iblk, idx t]
/-- Every grid point reads the whole spread codebook. -/
theorem iblk_codebook (t : Fin cfg0.N) : iblk m c 3 t = V m c main_v18 := by
  blk_ext! [iblk, idx t]
/-- Every grid point reads the launched squared norms. -/
theorem iblk_norms (t : Fin cfg0.N) : iblk m c 4 t = m ((c : Thread nD τ).loc main_arg4) := by
  blk_ext! [iblk, idx t, V_main_arg4]
/-- Every grid point reads the whole weights array. -/
theorem iblk_weights (t : Fin cfg0.N) : iblk m c 5 t = V m c main_v33 := by
  blk_ext! [iblk, idx t]

/-- Where every row and subspace has one nearest centroid, the kernel's output array holds their indices. -/
theorem array_eq (K : Fin 65536 → Fin 32 → Fin 256) (hK : ∀ n s, Picked (mdist m c n s) (K n s)) :
    (dats m 0 c).arrAt 6 cfg0.N = codeArr K := by
  refine (dats m 0 c).arrAt_eq_of_covers 6 _ (by decide +kernel) fun t hf y => ?_
  obtain ⟨r, n, rfl⟩ : ∃ (r : Fin 1024) (n : Fin 32), y = ix2 r n := ⟨y 0, y 1, eq_ix2 y⟩
  have ht : t.val < 64 := t.isLt
  have hr : t.val * 1024 + r.val < 65536 := by omega
  have hemb : (win0_6.blk t).view.emb (ix2 r n) = (ix2 (⟨t.val * 1024 + r.val, hr⟩ : Fin 65536) n) := by
    blk_ext [idx t]
  blk_simp
  rw [after0_6, hemb, iblk_proj, iblk_bias, iblk_codebook, iblk_norms, iblk_weights]
  refine out_apply _ _ _ _ _ _ (m (c, Proc.tc.devRef main_arg3)) r n (K ⟨t.val * 1024 + r.val, hr⟩ n)
    (fun s t k => codebook_apply m c s n t k) (fun s k => weights_index m c n s k) (fun s k => weights_one m c n s k) ?_
  refine (congrArg (fun y => Picked (Codes.dist y (m (c, Proc.tc.devRef main_arg3)) (m ((c : Thread nD τ).loc main_arg4)) n)
    (K ⟨t.val * 1024 + r.val, hr⟩ n)) (funext fun j => ?_)).mpr (hK ⟨t.val * 1024 + r.val, hr⟩ n)
  unfold proj
  rw [bias_apply]
  refine congrArg (· + _) (Finset.sum_congr rfl fun p _ => ?_)
  rw [iblk_rows m c t r p hr, rows_apply, proj_apply]

/-- The result: each nearest centroid's index, as a byte. -/
def byteArr (K : Fin 65536 → Fin 32 → Fin 256) : Vec Ideal S65536x32 .i8 := fun i => BitVec.ofNat 8 (K (i 0) (i 1)).val

/-- Where every row and subspace has one nearest centroid, the kernel's result holds their indices. -/
theorem result_eq (K : Fin 65536 → Fin 32 → Fin 256) (hK : ∀ n s, Picked (mdist m c n s) (K n s)) :
    Pipeline.afterTail₀ cfgs (dats m) 0 (V0 m) [hostOps1] c main_v36 = byteArr K := by
  unfold Pipeline.afterTail₀
  simp only [List.flatten_cons, List.flatten_nil, List.append_nil, hostOps1]
  after_results
  refine (congrArg (fun X : Vec Ideal S65536x32 .i32 => trunci 8 X natLt_8_32)
    ((Pipeline.withArrays_arr spec0 (by decide) c (V0 m c) (fun w => (dats m 0 c).arrAt w cfg0.N) 6).trans
      (array_eq m c K hK))).trans ?_
  funext i
  show BitVec.setWidth 8 (BitVec.ofNat 32 (K (i 0) (i 1)).val) = BitVec.ofNat 8 (K (i 0) (i 1)).val
  have hk := (K (i 0) (i 1)).isLt
  apply BitVec.eq_of_toNat_eq
  simp only [BitVec.toNat_setWidth, BitVec.toNat_ofNat]
  omega

end Cert.KernelIdeal.Val

end
-- ==== Proof.Tie.lean ====
/- The precondition, read: at every row and subspace exactly one distance equals the least one, so one centroid is
   strictly nearest. -/
module

public import proofs.«01_k».proof.Defs
public import proofs.«01_k».proof.Proof.TieFacts
public import proofs.«01_k».proof.Proof.Array
public import proofs.«01_k».proof.Proof.Least
public import Idealize.ShloMosaic.Lib.Pointwise

@[expose] public section

set_option maxRecDepth 16384

noncomputable section

namespace Cert.Proof

open Idealize.ShloMosaic Idealize.ShloMosaic.TcCoe Cert.Codes

/-- Two words that compare equal are equal. -/
theorem eq_of_cmpi {a b : BitVec 32} (h : IntOp.cmpi .eq a b = 1#1) : a = b := by
  by_contra hne
  simp only [IntOp.cmpi, beq_eq_false_iff_ne.mpr hne] at h
  exact absurd h (by decide)

/-- Where the precondition's array is all ones, one centroid of every subspace is nearest to every row's piece. -/
theorem picked_of_no_tie (x : FVec Ideal ⟨2, ![65536, 256]⟩ .f32) (A : FVec Ideal ⟨2, ![256, 256]⟩ .f32)
    (b : FVec Ideal ⟨1, ![256]⟩ .f32) (ce : FVec Ideal ⟨3, ![32, 256, 8]⟩ .f32) (n2 : FVec Ideal ⟨2, ![32, 256]⟩ .f32)
    (h : Cert.Pre_no_tie.fn (F := Ideal) x A b ce n2 = fun _ => 1#1) (n : Fin 65536) (s : Fin 32) :
    ∃ k, Picked (Codes.dist (proj x A b n) ce n2 s) k := by
  have hn := congrFun h (ix2 n s)
  revert hn
  unfold Cert.Pre_no_tie.fn Cert.Pre_no_tie.fn_part1
  pointwise [ofBits_two, ofBits_inf]
  intro hn
  exact exists_picked _ (eq_of_cmpi hn)

/-- Where the precondition holds of a memory, one index is picked at every row and subspace. -/
theorem exists_codes (m : (ℓ : Loc Cert.KernelIdeal.nD Cert.KernelIdeal.τ Cert.KernelIdeal.sig) → Buf (Elt Ideal) ℓ)
    (h : Pre_KernelIdeal_no_tie m) (c : Dev Cert.KernelIdeal.nD) :
    ∃ K : Fin 65536 → Fin 32 → Fin 256, ∀ n s, Picked (Cert.KernelIdeal.Val.mdist m c n s) (K n s) := by
  choose K hK using picked_of_no_tie _ _ _ _ _ (h c)
  exact ⟨K, hK⟩

end Cert.Proof

end
-- ==== Proof.ArgMin.lean ====
/- What the reference computes: its arg-min gives the index of the one least distance, and its distances are the same
   expression as the kernel's. -/
module

public import proofs.«01_k».proof.ReferenceIdeal
public import proofs.«01_k».proof.Proof.Gen.ReferenceIdeal
public import proofs.«01_k».proof.Proof.Least
public import Idealize.ShloMosaic.Lib.Pointwise
public import Idealize.ShloMosaic.PureOps.Ideal.Laws

@[expose] public section

set_option maxRecDepth 16384

noncomputable section

namespace Cert.ReferenceIdeal.Val

open Idealize.ShloMosaic Cert.ReferenceIdeal Cert.Codes

/-- The reference's step keeps the running pair where its value is the smaller. -/
theorem step_keep (a b : EReal × BitVec 32) (h : a.1 < b.1) :
    reducer_argmin_f32_i32 (F := Ideal) a b = a := by
  have h1 : (FloatOps.cmpf (F := Ideal) (φ := .f32) .olt a.1 b.1) = 1#1 := by
    show BitVec.ofBool (decide (a.1 < b.1)) = 1#1
    rw [decide_eq_true h]; rfl
  have h2 : ∀ v : BitVec 1, IntOp.ori (1#1) v = 1#1 := by decide
  unfold reducer_argmin_f32_i32
  simp only [h1, h2]
  rfl

/-- The step takes the new pair where its value is the smaller. -/
theorem step_take (a b : EReal × BitVec 32) (h : b.1 < a.1) :
    reducer_argmin_f32_i32 (F := Ideal) a b = b := by
  have h1 : (FloatOps.cmpf (F := Ideal) (φ := .f32) .olt a.1 b.1) = 0#1 := by
    show BitVec.ofBool (decide (a.1 < b.1)) = 0#1
    rw [decide_eq_false (not_lt.mpr h.le)]; rfl
  have h2 : (FloatOps.cmpf (F := Ideal) (φ := .f32) .oeq a.1 b.1) = 0#1 := by
    show BitVec.ofBool (decide (a.1 = b.1)) = 0#1
    rw [decide_eq_false h.ne']; rfl
  have h3 : (FloatOps.cmpf (F := Ideal) (φ := .f32) .une a.1 a.1) = 0#1 := by
    show BitVec.ofBool (decide (a.1 ≠ a.1)) = 0#1
    rw [decide_eq_false (not_not.mpr rfl)]; rfl
  have h4 : ∀ v : BitVec 1, IntOp.ori (IntOp.ori (0#1) (0#1)) (IntOp.andi (0#1) v) = 0#1 := by decide
  unfold reducer_argmin_f32_i32
  simp only [h1, h2, h3, h4]
  rfl

/-- The step at two equal pairs gives that pair. -/
theorem step_self (a : EReal × BitVec 32) : reducer_argmin_f32_i32 (F := Ideal) a a = a := by
  unfold reducer_argmin_f32_i32 Scalar.select
  simp only [ite_self]

/-- The step's value is one of the two values. -/
theorem step_fst (a b : EReal × BitVec 32) :
    (reducer_argmin_f32_i32 (F := Ideal) a b).1 = a.1 ∨ (reducer_argmin_f32_i32 (F := Ideal) a b).1 = b.1 := by
  unfold reducer_argmin_f32_i32 Scalar.select
  dsimp only
  split
  · exact .inl rfl
  · exact .inr rfl

/-- The positions an entry of the arg-min runs over: those of its row and subspace. -/
theorem drop_eq_iff (h : S65536x32x256.ReducesTo [2] S65536x32) (i : S65536x32x256.Idx) (n : Fin 65536) (s : Fin 32) :
    h.drop i = ix2 n s ↔ i 0 = n ∧ i 1 = s := by
  have e0 : (h.drop i 0).val = (i 0).val := h.drop_apply_val_of_eq i 0 0 (by decide)
  have e1 : (h.drop i 1).val = (i 1).val := h.drop_apply_val_of_eq i 1 1 (by decide)
  constructor
  · intro e
    rw [e] at e0 e1
    exact ⟨Fin.ext e0.symm, Fin.ext e1.symm⟩
  · rintro ⟨h0, h1⟩
    funext a
    fin_cases a
    · exact Fin.ext (e0.trans (congrArg Fin.val h0))
    · exact Fin.ext (e1.trans (congrArg Fin.val h1))

/-- Where the values over one row and subspace have one least, the arg-min gives its index as a word. -/
theorem argmin_eq (x : Vec Ideal S65536x32x256 .f32) (h : S65536x32x256.ReducesTo [2] S65536x32) (hu : 0 < S_.numel)
    (n : Fin 65536) (s : Fin 32) (k : Fin 256) (hk : Picked (fun q => x (ix3 n s q)) k) :
    (Host.argReduce (F := Ideal) (φ := .f32) reducer_argmin_f32_i32 x (iotaInDim S65536x32x256 32 2)
      (constant (F := Ideal) S_ .f32 0x7F800000#32) (constantI S_ 32 0#32) h hu (ix2 n s)).2 = BitVec.ofNat 32 k.val := by
  rw [Ideal.argReduce_eq_reduce2, Host.reduce2_eq_foldl_fiber]
  have hmem : ∀ p ∈ Host.argReduceFiber x (iotaInDim S65536x32x256 32 2) h (ix2 n s),
      ∃ q : Fin 256, p = (x (ix3 n s q), BitVec.ofNat 32 q.val) := by
    intro p hp
    obtain ⟨a, ha, rfl⟩ := List.mem_map.mp hp
    have hd := of_decide_eq_true (List.mem_filter.mp ha).2
    obtain ⟨h0, h1⟩ := (drop_eq_iff h _ n s).mp hd
    refine ⟨S65536x32x256.rowMajor.symm a 2, ?_⟩
    have hi := eq_ix3 (S65536x32x256.rowMajor.symm a)
    rw [h0, h1] at hi
    rw [← hi]
    rfl
  have hin : (x (ix3 n s k), BitVec.ofNat 32 k.val) ∈ Host.argReduceFiber x (iotaInDim S65536x32x256 32 2) h (ix2 n s) := by
    refine List.mem_map.mpr ⟨S65536x32x256.rowMajor (ix3 n s k), List.mem_filter.mpr ⟨List.mem_finRange _, ?_⟩, ?_⟩
    · rw [Equiv.symm_apply_apply]
      exact decide_eq_true ((drop_eq_iff h _ n s).mpr ⟨rfl, rfl⟩)
    · rw [Equiv.symm_apply_apply]
      rfl
  rw [foldl_least _ step_keep step_take step_self step_fst (x (ix3 n s k), BitVec.ofNat 32 k.val) _ _ ?_ (.inr ⟨?_, hin⟩)]
  · intro p hp
    obtain ⟨q, rfl⟩ := hmem p hp
    by_cases hq : q = k
    · exact .inl (by rw [hq])
    · exact .inr (hk q hq)
  · show x (ix3 n s k) < Ideal.ofBits .f32 0x7F800000#32
    rw [ofBits_inf]
    exact picked_lt_top hk

/-- The array of distances as the reference computes it: the squared norms, less twice the products of the projection
    cut in 32 pieces with the centroids. -/
def distArr (x : FVec Ideal S65536x256 .f32) (A : FVec Ideal S256x256 .f32) (b : FVec Ideal S256 .f32)
    (ce : FVec Ideal S32x256x8 .f32) (n2 : FVec Ideal S32x256 .f32) : FVec Ideal S65536x32x256 .f32 :=
  subf (broadcastInDim S65536x32x256 ![0, 1, 2] Facts₀.bcast_S1x32x256_S65536x32x256_0_1_2
      (broadcastInDim S1x32x256 ![1, 2] Facts₀.bcast_S32x256_S1x32x256_1_2 n2))
    (mulf (broadcastInDim S65536x32x256 ![] Facts₀.bcast_S_S65536x32x256 (constant S_ .f32 0x40000000#32))
      (shapeCast S65536x32x256
        (transpose S65536x32x1x256 [1, 0, 2, 3]
          (Host.dotGeneral dot_S65536x32x1x8_S32x8x256_S32x65536x1x256_3_1_02_2_1_0 none
            (shapeCast S65536x32x1x8
              (addf (Host.dotGeneral dot_S65536x256_S256x256_S65536x256_1_0_0_1_n_n none x
                  (transpose S256x256 [1, 0] A Facts₀.transposes_S256x256_S256x256_1_0))
                (broadcastInDim S65536x256 ![0, 1] Facts₀.bcast_S1x256_S65536x256_0_1
                  (broadcastInDim S1x256 ![1] Facts₀.bcast_S256_S1x256_1 b)))
              Facts₀.shapeCasts_S65536x256_S65536x32x1x8)
            (shapeCast S32x8x256
              (broadcastInDim S1x32x8x256 ![1, 2, 3] Facts₀.bcast_S32x8x256_S1x32x8x256_1_2_3
                (transpose S32x8x256 [0, 2, 1] ce Facts₀.transposes_S32x256x8_S32x8x256_0_2_1))
              Facts₀.shapeCasts_S1x32x8x256_S32x8x256))
          Facts₀.transposes_S32x65536x1x256_S65536x32x1x256_1_0_2_3)
        Facts₀.shapeCasts_S65536x32x1x256_S65536x32x256))

/-- Each entry of that array is the distance of a piece of a projected row to a centroid. -/
theorem distArr_apply (x : FVec Ideal S65536x256 .f32) (A : FVec Ideal S256x256 .f32) (b : FVec Ideal S256 .f32)
    (ce : FVec Ideal S32x256x8 .f32) (n2 : FVec Ideal S32x256 .f32) (n : Fin 65536) (s : Fin 32) (k : Fin 256) :
    distArr x A b ce n2 (ix3 n s k) = Codes.dist (proj x A b n) ce n2 s k := by
  unfold distArr Codes.dist proj
  pointwise [ofBits_two]

/-- Where one centroid of every subspace is strictly nearest to every row's piece, the reference's result holds their
    indices, as bytes. -/
theorem result_eq (x : FVec Ideal S65536x256 .f32) (A : FVec Ideal S256x256 .f32) (b : FVec Ideal S256 .f32)
    (ce : FVec Ideal S32x256x8 .f32) (n2 : FVec Ideal S32x256 .f32) (h : S65536x32x256.ReducesTo [2] S65536x32)
    (hu : 0 < S_.numel) (h8 : 8 < 32) (K : Fin 65536 → Fin 32 → Fin 256)
    (hK : ∀ n s, Picked (Codes.dist (proj x A b n) ce n2 s) (K n s)) :
    trunci 8 (fun j => (Host.argReduce (F := Ideal) (φ := .f32) reducer_argmin_f32_i32 (distArr x A b ce n2)
      (iotaInDim S65536x32x256 32 2) (constant (F := Ideal) S_ .f32 0x7F800000#32) (constantI S_ 32 0#32) h hu j).2) h8
      = fun i : S65536x32.Idx => BitVec.ofNat 8 (K (i 0) (i 1)).val := by
  have hK' : ∀ n s, Picked (fun q => distArr x A b ce n2 (ix3 n s q)) (K n s) := by
    intro n s
    simpa only [distArr_apply] using hK n s
  funext i
  unfold trunci
  beta_reduce
  obtain ⟨n, s, rfl⟩ : ∃ (n : Fin 65536) (s : Fin 32), i = ix2 n s := ⟨i 0, i 1, eq_ix2 i⟩
  rw [argmin_eq _ h hu n s _ (hK' n s)]
  show BitVec.setWidth 8 (BitVec.ofNat 32 (K n s).val) = BitVec.ofNat 8 (K n s).val
  have hlt := (K n s).isLt
  apply BitVec.eq_of_toNat_eq
  simp only [BitVec.toNat_setWidth, BitVec.toNat_ofNat]
  omega

end Cert.ReferenceIdeal.Val

end
-- ==== Proof.Algebraic.lean ====
/- The equation: where the precondition holds, the idealized kernel and the reference end with the same result. -/
module

public import proofs.«01_k».proof.Proof.Tie
public import proofs.«01_k».proof.Proof.ArgMin
public import proofs.«01_k».proof.Proof.Frames

@[expose] public section

set_option maxRecDepth 16384

noncomputable section

namespace Cert.Proof

open Idealize.ShloMosaic Idealize.ShloMosaic.TcCoe Idealize.SL.Sem Cert.Codes

/-- THE EQUATION. Where the precondition holds, the idealized kernel's bytes are the reference's: at every row and
    subspace both are the index of the one nearest centroid. -/
theorem algebraic : algebraic_KernelIdeal_ReferenceIdeal_pre_no_tie (hKernelIdeal := Cert.KernelIdeal.Gen.facts)
    (hReferenceIdeal := Cert.ReferenceIdeal.Gen.facts) (hPre_no_tie := tie_facts) := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
    · exact Cert.KernelIdeal.Gen.W_main_arg2 m (Cert.KernelIdeal.Gen.dats m) c
    · exact Cert.KernelIdeal.Gen.W_main_arg3 m (Cert.KernelIdeal.Gen.dats m) c
  · hlo_run
    obtain ⟨K, hK⟩ := exists_codes m hpre c
    simp -implicitDefEqProofs only [StableHlo.TRef.toBuf, StableHlo.TRef.ofBuf, cast_cast, cast_eq]
    exact (Cert.ReferenceIdeal.Val.result_eq _ _ _ _ _ _ _ _ K hK).trans (Cert.KernelIdeal.Val.result_eq m c K hK).symm

end Cert.Proof

end
-- ==== Proof.lean ====
/- The proof of the certificate's claim: the frames, the (empty) idealization and the value claim assembled. -/
module

public import proofs.«01_k».proof.Defs
public import proofs.«01_k».proof.Proof.Frames
public import proofs.«01_k».proof.Proof.Algebraic

@[expose] public section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts, tie_facts,
    kernel_quiescent, kernelIdeal_quiescent, kernelIdeal_quiescent_no_tie,
    referenceIdeal_quiescent, referenceIdeal_quiescent_no_tie, trivial, algebraic⟩

end Cert.Proof

end
